-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S16x768 : Shape := ⟨2, ![16, 768]⟩
abbrev S16x768x1024 : Shape := ⟨3, ![16, 768, 1024]⟩
abbrev S16x1024x768 : Shape := ⟨3, ![16, 1024, 768]⟩
abbrev S2x2048x16 : Shape := ⟨3, ![2, 2048, 16]⟩
abbrev S1x2048x768 : Shape := ⟨3, ![1, 2048, 768]⟩
abbrev S1x2048x16 : Shape := ⟨3, ![1, 2048, 16]⟩
abbrev S2048x768 : Shape := ⟨2, ![2048, 768]⟩
abbrev S2048x16 : Shape := ⟨2, ![2048, 16]⟩
abbrev S2048 : Shape := ⟨1, ![2048]⟩
abbrev S2048x1 : Shape := ⟨2, ![2048, 1]⟩
abbrev S2x16x2048 : Shape := ⟨3, ![2, 16, 2048]⟩
abbrev S2x16x256 : Shape := ⟨3, ![2, 16, 256]⟩
abbrev S2x16x1x256 : Shape := ⟨4, ![2, 16, 1, 256]⟩
abbrev S1x1x1x256 : Shape := ⟨4, ![1, 1, 1, 256]⟩
abbrev S1x768x1024 : Shape := ⟨3, ![1, 768, 1024]⟩
abbrev S1x1024x768 : Shape := ⟨3, ![1, 1024, 768]⟩
abbrev S256 : Shape := ⟨1, ![256]⟩
abbrev S256x2048 : Shape := ⟨2, ![256, 2048]⟩
abbrev S256x1 : Shape := ⟨2, ![256, 1]⟩
abbrev S256x768 : Shape := ⟨2, ![256, 768]⟩
abbrev S768x1024 : Shape := ⟨2, ![768, 1024]⟩
abbrev S256x1024 : Shape := ⟨2, ![256, 1024]⟩
abbrev S1024x768 : Shape := ⟨2, ![1024, 768]⟩

abbrev nBuf : Space → Nat
  | .hbm => 11
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S16x768, .f32⟩
  | .hbm, ⟨2, _⟩ => ⟨S16x768x1024, .f32⟩
  | .hbm, ⟨3, _⟩ => ⟨S16x1024x768, .f32⟩
  | .hbm, ⟨4, _⟩ => ⟨S2x2048x16, .f32⟩
  | .hbm, ⟨5, _⟩ => ⟨S2x16x2048, .f32⟩
  | .hbm, ⟨6, _⟩ => ⟨S2x16x256, .f32⟩
  | .hbm, ⟨7, _⟩ => ⟨S2x16x256, .i32⟩
  | .hbm, ⟨8, _⟩ => ⟨S2x16x1x256, .i32⟩
  | .hbm, ⟨9, _⟩ => ⟨S2x16x1x256, .f32⟩
  | .hbm, ⟨10, _⟩ => ⟨S2x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S16x768, .f32⟩
  | .local _ .vmem, ⟨3, _⟩ => ⟨S1x2048x16, .f32⟩
  | .local _ .vmem, ⟨4, _⟩ => ⟨S1x2048x16, .f32⟩
  | .local _ .vmem, ⟨5, _⟩ => ⟨S1x2048x768, .f32⟩
  | .local _ .vmem, ⟨6, _⟩ => ⟨S1x2048x768, .f32⟩
  | .local _ .vmem, ⟨7, _⟩ => ⟨S1x1x1x256, .i32⟩
  | .local _ .vmem, ⟨8, _⟩ => ⟨S1x1x1x256, .i32⟩
  | .local _ .vmem, ⟨9, _⟩ => ⟨S1x1x1x256, .f32⟩
  | .local _ .vmem, ⟨10, _⟩ => ⟨S1x1x1x256, .f32⟩
  | .local _ .vmem, ⟨11, _⟩ => ⟨S1x768x1024, .f32⟩
  | .local _ .vmem, ⟨12, _⟩ => ⟨S1x768x1024, .f32⟩
  | .local _ .vmem, ⟨13, _⟩ => ⟨S1x1024x768, .f32⟩
  | .local _ .vmem, ⟨14, _⟩ => ⟨S1x1024x768, .f32⟩
  | .local _ .vmem, ⟨15, _⟩ => ⟨S1x2048x768, .f32⟩
  | .local _ .vmem, ⟨16, _⟩ => ⟨S1x2048x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x768x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x2048x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S2x2048x768 : Shape := ⟨3, ![2, 2048, 768]⟩
abbrev S16x768 : Shape := ⟨2, ![16, 768]⟩
abbrev S16x768x1024 : Shape := ⟨3, ![16, 768, 1024]⟩
abbrev S16x1024x768 : Shape := ⟨3, ![16, 1024, 768]⟩
abbrev S2x2048x16 : Shape := ⟨3, ![2, 2048, 16]⟩
abbrev S_ : Shape := ⟨0, ![]⟩
abbrev S2x2048 : Shape := ⟨2, ![2, 2048]⟩
abbrev S2x2048x1 : Shape := ⟨3, ![2, 2048, 1]⟩
abbrev S2x16x2048 : Shape := ⟨3, ![2, 16, 2048]⟩
abbrev S2x16x256 : Shape := ⟨3, ![2, 16, 256]⟩
abbrev S2x16x256x1 : Shape := ⟨4, ![2, 16, 256, 1]⟩
abbrev S1x1x1x2048 : Shape := ⟨4, ![1, 1, 1, 2048]⟩
abbrev S2x16x256x2048 : Shape := ⟨4, ![2, 16, 256, 2048]⟩
abbrev S2x16x256x768 : Shape := ⟨4, ![2, 16, 256, 768]⟩
abbrev S16x1024x2x256 : Shape := ⟨4, ![16, 1024, 2, 256]⟩
abbrev S2x16x256x1024 : Shape := ⟨4, ![2, 16, 256, 1024]⟩
abbrev S16x768x2x256 : Shape := ⟨4, ![16, 768, 2, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S16x768, .f32⟩
  | .hbm, ⟨2, _⟩ => ⟨S16x768x1024, .f32⟩
  | .hbm, ⟨3, _⟩ => ⟨S16x1024x768, .f32⟩
  | .hbm, ⟨4, _⟩ => ⟨S2x2048x16, .f32⟩
  | .hbm, ⟨5, _⟩ => ⟨S_, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048x1, .f32⟩
  | .hbm, ⟨11, _⟩ => ⟨S2x2048x16, .f32⟩
  | .hbm, ⟨12, _⟩ => ⟨S2x2048x16, .f32⟩
  | .hbm, ⟨13, _⟩ => ⟨S2x2048x16, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S2x2048x16, .f32⟩
  | .hbm, ⟨18, _⟩ => ⟨S2x2048x16, .f32⟩
  | .hbm, ⟨19, _⟩ => ⟨S2x16x2048, .f32⟩
  | .hbm, ⟨20, _⟩ => ⟨S2x16x256, .f32⟩
  | .hbm, ⟨21, _⟩ => ⟨S2x16x256, .i32⟩
  | .hbm, ⟨22, _⟩ => ⟨S2x16x256x1, .i32⟩
  | .hbm, ⟨23, _⟩ => ⟨S1x1x1x2048, .i32⟩
  | .hbm, ⟨24, _⟩ => ⟨S2x16x256x2048, .i32⟩
  | .hbm, ⟨25, _⟩ => ⟨S2x16x256x2048, .i32⟩
  | .hbm, ⟨26, _⟩ => ⟨S2x16x256x2048, .i1⟩
  | .hbm, ⟨27, _⟩ => ⟨S2x16x256x2048, .f32⟩
  | .hbm, ⟨28, _⟩ => ⟨S2x16x256x768, .f32⟩
  | .hbm, ⟨29, _⟩ => ⟨S16x1024x2x256, .f32⟩
  | .hbm, ⟨30, _⟩ => ⟨S2x16x256x1024, .f32⟩
  | .hbm, ⟨31, _⟩ => ⟨S_, .f32⟩
  | .hbm, ⟨32, _⟩ => ⟨S2x16x256x1024, .f32⟩
  | .hbm, ⟨33, _⟩ => ⟨S2x16x256x1024, .f32⟩
  | .hbm, ⟨34, _⟩ => ⟨S2x16x256x1024, .f32⟩
  | .hbm, ⟨35, _⟩ => ⟨S_, .f32⟩
  | .hbm, ⟨36, _⟩ => ⟨S_, .f32⟩
  | .hbm, ⟨37, _⟩ => ⟨S2x16x256x1024, .f32⟩
  | .hbm, ⟨38, _⟩ => ⟨S2x16x256x1024, .f32⟩
  | .hbm, ⟨39, _⟩ => ⟨S2x16x256x1024, .f32⟩
  | .hbm, ⟨40, _⟩ => ⟨S2x16x256x1024, .f32⟩
  | .hbm, ⟨41, _⟩ => ⟨S16x768x2x256, .f32⟩
  | .hbm, ⟨42, _⟩ => ⟨S2x16x256x768, .f32⟩
  | .hbm, ⟨43, _⟩ => ⟨S2x16x256x1, .f32⟩
  | .hbm, ⟨44, _⟩ => ⟨S2x16x256x768, .f32⟩
  | .hbm, ⟨45, _⟩ => ⟨S2x16x256x768, .f32⟩
  | .hbm, ⟨46, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.KernelRun.lean ====
/- The idealized kernel's run, with its result read: `main_v4` ends at the contents that the second region leaves. -/
module

public import proofs.«01_k».proof.Proof.Gen.KernelIdeal.Frame

@[expose] public section

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ) (ρ : Dev nD → PrngReg)

-- the launch theorem's implicit arguments are found by unifying its conclusion with this one, under a metavariable's type
set_option backward.isDefEq.respectTransparency.types false in
/-- Every weakly fair execution of the kernel's @main terminates without a fault; every final state has the result array
    at what the second region leaves in it (`W3`), and the four arguments as they were launched. -/
theorem run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v4 (by decide)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩)

end Cert.KernelIdeal.KernelRun

end
-- ==== Proof.RefTerm.lean ====
/- The reference's result in three named parts over typed arrays: the gate's softmax, the choice of the tokens with the
   greatest gates per expert, and the experts' contribution given the choice. -/
module

public import proofs.«01_k».proof.Proof.Gen.ReferenceIdeal.Run
public import Idealize.ShloMosaic.PureOps.Ideal

@[expose] public section

set_option maxRecDepth 16384

noncomputable section

namespace Cert.ReferenceIdeal.RefTerm

open Cert.ReferenceIdeal Cert.ReferenceIdeal.Gen Idealize.ShloMosaic Idealize.ShloMosaic.TcCoe Idealize.SL.Sem

/-- The gate's scores: every token's product with every expert's gate row. -/
def scores (X : FVec Ideal S2x2048x768 .f32) (G : FVec Ideal S16x768 .f32) : FVec Ideal S2x2048x16 .f32 :=
  Host.dotGeneral dot_S2x2048x768_S16x768_S2x2048x16_2_1_01_0_n_n none X G

/-- A score array less each token's greatest score, exponentiated. -/
def shifted (S : FVec Ideal S2x2048x16 .f32) : FVec Ideal S2x2048x16 .f32 :=
  Host.exp (subf S (broadcastInDim S2x2048x16 ![0, 1, 2] bcast_S2x2048x1_S2x2048x16_0_1_2 (broadcastInDim S2x2048x1 ![0, 1] bcast_S2x2048_S2x2048x1_0_1 (maximumf (broadcastInDim S2x2048 ![] bcast_S_S2x2048 (constant S_ .f32 0xFF800000#32)) (Host.reduce FloatOps.maximumf S (constant S_ .f32 0xFF800000#32) reducesTo_S2x2048x16_S2x2048_d2 h_S_)))))

/-- The gate: each token's softmax over the experts. -/
def gate (X : FVec Ideal S2x2048x768 .f32) (G : FVec Ideal S16x768 .f32) : FVec Ideal S2x2048x16 .f32 :=
  Host.divf (shifted (scores X G)) (broadcastInDim S2x2048x16 ![0, 1, 2] bcast_S2x2048x1_S2x2048x16_0_1_2 (broadcastInDim S2x2048x1 ![0, 1] bcast_S2x2048_S2x2048x1_0_1 (Host.reduceAdd (shifted (scores X G)) (constant S_ .f32 0x00000000#32) reducesTo_S2x2048x16_S2x2048_d2 h_S_)))

/-- The tokens with the greatest gates, per batch entry and expert, with their gates. -/
def chosen (P : FVec Ideal S2x2048x16 .f32) : FVec Ideal S2x16x256 .f32 × IVec S2x16x256 32 :=
  Host.topK S2x16x256 2 (FloatOps.cmpfTotal .gt) (transpose S2x16x2048 [0, 2, 1] P transposes_S2x2048x16_S2x16x2048_0_2_1) sliceFits_S2x16x2048_S2x16x256

/-- The choice as an array of zeros and ones: one where the token is the chosen one. -/
def oneHot (I : IVec S2x16x256 32) : FVec Ideal S2x16x256x2048 .f32 :=
  uitofp .f32 (cmpi .eq (broadcastInDim S2x16x256x2048 ![0, 1, 2, 3] bcast_S2x16x256x1_S2x16x256x2048_0_1_2_3 (broadcastInDim S2x16x256x1 ![0, 1, 2] bcast_S2x16x256_S2x16x256x1_0_1_2 I)) (broadcastInDim S2x16x256x2048 ![0, 1, 2, 3] bcast_S1x1x1x2048_S2x16x256x2048_0_1_2_3 (iotaInDim S1x1x1x2048 32 3)))

/-- The chosen tokens' rows, gathered by a product with the choice. -/
def gathered (X : FVec Ideal S2x2048x768 .f32) (I : IVec S2x16x256 32) : FVec Ideal S2x16x256x768 .f32 :=
  Host.dotGeneral dot_S2x16x256x2048_S2x2048x768_S2x16x256x768_3_1_12_2_0_0 none (oneHot I) X

/-- Each expert's first layer over its chosen tokens. -/
def hidden (A : FVec Ideal S16x768x1024 .f32) (T : FVec Ideal S2x16x256x768 .f32) : FVec Ideal S16x1024x2x256 .f32 :=
  Host.dotGeneral dot_S16x768x1024_S2x16x256x768_S16x1024x2x256_1_3_2_02_0_1 none A T

/-- The exact Gaussian error linear unit of the first layer's output. -/
def activated (H : FVec Ideal S2x16x256x1024 .f32) : FVec Ideal S2x16x256x1024 .f32 :=
  mulf (mulf (broadcastInDim S2x16x256x1024 ![] bcast_S_S2x16x256x1024 (constant S_ .f32 0x3F000000#32)) H) (Host.erfc (mulf (Host.negf H) (broadcastInDim S2x16x256x1024 ![] bcast_S_S2x16x256x1024 (Host.sqrt (constant S_ .f32 0x3F000000#32)))))

/-- Each expert's second layer. -/
def outputs (B : FVec Ideal S16x1024x768 .f32) (U : FVec Ideal S2x16x256x1024 .f32) : FVec Ideal S16x768x2x256 .f32 :=
  Host.dotGeneral dot_S16x1024x768_S2x16x256x1024_S16x768x2x256_1_3_2_02_0_1 none B U

/-- The experts' outputs, weighted by the gates `V` and summed back at the tokens chosen by `I`. -/
def combined (X : FVec Ideal S2x2048x768 .f32) (A : FVec Ideal S16x768x1024 .f32) (B : FVec Ideal S16x1024x768 .f32) (V : FVec Ideal S2x16x256 .f32) (I : IVec S2x16x256 32) : FVec Ideal S2x2048x768 .f32 :=
  Host.dotGeneral dot_S2x16x256x2048_S2x16x256x768_S2x2048x768_12_12_3_3_0_0 none (oneHot I)
    (mulf (transpose S2x16x256x768 [2, 0, 3, 1] (outputs B (activated (transpose S2x16x256x1024 [2, 0, 3, 1] (hidden A (gathered X I)) transposes_S16x1024x2x256_S2x16x256x1024_2_0_3_1))) transposes_S16x768x2x256_S2x16x256x768_2_0_3_1)
      (broadcastInDim S2x16x256x768 ![0, 1, 2, 3] bcast_S2x16x256x1_S2x16x256x768_0_1_2_3 (broadcastInDim S2x16x256x1 ![0, 1, 2] bcast_S2x16x256_S2x16x256x1_0_1_2 V)))

/-- The reference's result is the three parts composed. -/
theorem result_eq (m : (ℓ : Loc nD τ sig) → Buf (Elt Ideal) ℓ) (c : Dev nD) :
    Value.res_main_v30 m c = combined (m ((c.tc : Thread nD τ).loc main_arg0)) (m ((c.tc : Thread nD τ).loc main_arg2)) (m ((c.tc : Thread nD τ).loc main_arg3))
      (chosen (gate (m ((c.tc : Thread nD τ).loc main_arg0)) (m ((c.tc : Thread nD τ).loc main_arg1)))).1
      (chosen (gate (m ((c.tc : Thread nD τ).loc main_arg0)) (m ((c.tc : Thread nD τ).loc main_arg1)))).2 := by
  unfold Value.res_main_v30 combined outputs activated hidden gathered oneHot chosen gate shifted scores
  rfl

end Cert.ReferenceIdeal.RefTerm

end
-- ==== Proof.Gate.lean ====
/- The first region's result: the gate, each token's softmax over the experts. -/
module

public import proofs.«01_k».proof.Proof.Gen.KernelIdeal.Frame
public import proofs.«01_k».proof.Proof.RefTerm
public import Idealize.ShloMosaic.Lib.Pipeline.ValueKit
public import Idealize.ShloMosaic.Lib.Pointwise

@[expose] public section

set_option maxRecDepth 16384

noncomputable section

namespace Cert.KernelIdeal.Gate

open Cert.KernelIdeal Cert.KernelIdeal.Gen
open Cert.ReferenceIdeal.RefTerm (gate shifted scores)
open Idealize.ShloMosaic Idealize.ShloMosaic.TcCoe Idealize.SL.Sem

variable (m : (ℓ : Loc nD τ sig) → Buf (Elt Ideal) ℓ) (ρ : Dev nD → PrngReg)

/-- A maximum that starts at `b` is not changed by one more maximum with `b`. -/
theorem max_fold_max {ι : Type} (s : Finset ι) (b : EReal) (f : ι → EReal) :
    max b (s.fold max b f) = s.fold max b f :=
  max_eq_right ((Finset.le_fold_max b).mpr (Or.inl le_rfl))

/-- The windows' block indices: the token window and the result follow the grid's point, the gate weights stay. -/
theorem idx : ∀ t : Fin cfg0.N, win0_0.index t = ![t.val, 0, 0] ∧ win0_1.index t = ![0, 0] ∧ win0_2.index t = ![t.val, 0, 0] :=
  (by decide +kernel : ∀ t : Fin grid0.N, _)

/-- What the body stores at a block index is the gate at the array index where it lands. -/
theorem point (c : Dev nD) (t : Fin cfg0.N) (y : S1x2048x16.Idx) :
    k0_pay1 (iblk0 (V0 m ρ) c 0 t) (iblk0 (V0 m ρ) c 1 t) y
      = gate (m ((c : Thread nD τ).loc main_arg0)) (m ((c : Thread nD τ).loc main_arg1)) (((cfg0.win 2).blk t).view.emb y) := by
  pointwise [k0_pay1, gate, shifted, scores]
  rw [max_fold_max]
  blk_point [iblk0, V0, W0, s₀, idx t]

/-- The gate array after the first region. -/
theorem final (c : Dev nD) : W1 m ρ c (Proc.devRef .tc main_v0)
    = gate (m ((c : Thread nD τ).loc main_arg0)) (m ((c : Thread nD τ).loc main_arg1)) := by
  refine (W1_arr m ρ c 2).trans ?_
  refine (dat0 (V0 m ρ) c).arrAt_eq_of_covers 2 _ (by decide +kernel) fun t _ y => ?_
  blk_simp
  rw [after0_2]; frame_out
  exact point m ρ c t y

end Cert.KernelIdeal.Gate

end
-- ==== Proof.Choice.lean ====
/- What the second region is entered with: the chosen tokens' numbers and gates, reshaped. -/
module

public import proofs.«01_k».proof.Proof.Gate

@[expose] public section

set_option maxRecDepth 16384

noncomputable section

namespace Cert.KernelIdeal.Choice

open Cert.KernelIdeal Cert.KernelIdeal.Gen
open Cert.ReferenceIdeal.RefTerm (gate chosen)
open Idealize.ShloMosaic Idealize.ShloMosaic.TcCoe Idealize.SL.Sem Idealize.ShloMosaic.StableHlo

variable (m : (ℓ : Loc nD τ sig) → Buf (Elt Ideal) ℓ) (ρ : Dev nD → PrngReg)

/-- The chosen tokens of the launch's arguments, with their gates. -/
abbrev picks (c : Dev nD) : FVec Ideal S2x16x256 .f32 × IVec S2x16x256 32 :=
  chosen (gate (m ((c : Thread nD τ).loc main_arg0)) (m ((c : Thread nD τ).loc main_arg1)))

/-- The second region's token numbers are the chosen tokens'. -/
theorem numbers (c : Dev nD) : W2 m ρ c (Proc.devRef .tc main_v2)
    = shapeCast S2x16x1x256 (picks m c).2 shapeCasts_S2x16x256_S2x16x1x256 := by
  after_results_simp
  rw [Gate.final]
  rfl

/-- The second region's weights are the chosen tokens' gates. -/
theorem gates (c : Dev nD) : W2 m ρ c (Proc.devRef .tc main_v3)
    = shapeCast S2x16x1x256 (picks m c).1 shapeCasts_S2x16x256_S2x16x1x256 := by
  after_results_simp
  rw [Gate.final]
  rfl

end Cert.KernelIdeal.Choice

end
-- ==== Proof.Gelu.lean ====
/- The two spellings of the exact Gaussian error linear unit agree over the extended reals. -/
module

public import Idealize.ShloMosaic.PureOps.Ideal

@[expose] public section

noncomputable section

namespace Cert.Gelu

open Idealize.ShloMosaic

/-- The error function is odd, at the infinities too. -/
theorem erf_neg (x : EReal) : Ideal.erf (-x) = -Ideal.erf x := by
  induction x with
  | bot => simp
  | top => simp
  | coe r =>
    rw [← EReal.coe_neg, Ideal.erf_coe, Ideal.erf_coe, ← EReal.coe_neg]
    congr 1
    have h := intervalIntegral.integral_comp_neg (fun t : ℝ => Real.exp (-(t ^ 2))) (a := 0) (b := r)
    simp only [neg_sq, neg_zero] at h
    rw [intervalIntegral.integral_symm, ← h, mul_neg]

/-- The complementary error function of a negated argument is one plus the error function. -/
theorem erfc_neg (x : EReal) : Ideal.erfc (-x) = 1 + Ideal.erf x := by
  rw [Ideal.erfc, erf_neg, sub_eq_add_neg, neg_neg]

/-- The pattern 0x3F000000 denotes one half. -/
theorem half_eq : Ideal.ofBits .f32 0x3F000000#32 = ((1 / 2 : ℝ) : EReal) := by
  simp [Ideal.ofBits, Ideal.ieee, -EReal.coe_mul]; norm_num

/-- The square root of one half is the reciprocal of the square root of two. -/
theorem sqrt_half : Ideal.sqrt (Ideal.ofBits .f32 0x3F000000#32) = (((Real.sqrt 2)⁻¹ : ℝ) : EReal) := by
  rw [half_eq, Ideal.sqrt_coe, if_neg (by norm_num), one_div, Real.sqrt_inv]

/-- Half of `h` times one plus the error function of `h/√2` is half of `h` times the complementary error function of
    `-h·√(1/2)`, whatever the half is written as. -/
theorem gelu_eq (a h : EReal) :
    a * h * (1 + Ideal.erf (h * (((Real.sqrt 2)⁻¹ : ℝ) : EReal)))
      = a * h * Ideal.erfc (-h * Ideal.sqrt (Ideal.ofBits .f32 0x3F000000#32)) := by
  rw [sqrt_half, EReal.neg_mul, erfc_neg]

end Cert.Gelu

end
-- ==== Proof.Experts.lean ====
/- One expert's contribution at one token, written plainly, and the two programs' arithmetic read as it: the kernel's body
   adds one expert's contribution to the block, and the reference sums them over the experts. -/
module

public import proofs.«01_k».proof.Proof.Gen.KernelIdeal.Skeleton
public import proofs.«01_k».proof.Proof.RefTerm
public import proofs.«01_k».proof.Proof.Gelu
public import Idealize.ShloMosaic.Lib.Pipeline.ValueKit
public import Idealize.ShloMosaic.Lib.Pointwise

@[expose] public section

set_option maxRecDepth 16384

noncomputable section

namespace Cert.KernelIdeal.Experts

open Cert.KernelIdeal Cert.KernelIdeal.Gen
open Cert.ReferenceIdeal.RefTerm (combined)
open Idealize.ShloMosaic Idealize.ShloMosaic.TcCoe Idealize.SL.Sem

/-- One where the chosen token's number `i` is the number `u`, zero elsewhere. -/
def hot (i : BitVec 32) (u : ℕ) : EReal :=
  FloatOps.uitofp (F := Ideal) .f32 (IntOp.cmpi .eq i (BitVec.ofNat 32 u))

/-- The first layer of an expert with weights `a` at the token numbered `i`. -/
def layer (i : BitVec 32) (x : Fin 2048 → Fin 768 → EReal) (a : Fin 768 → Fin 1024 → EReal) (f : Fin 1024) : EReal :=
  ∑ c, (∑ u : Fin 2048, hot i u * x u c) * a c f

/-- The exact Gaussian error linear unit, as the reference writes it. -/
def gelu (h : EReal) : EReal :=
  Ideal.ofBits .f32 0x3F000000#32 * h * Ideal.erfc (-h * Ideal.sqrt (Ideal.ofBits .f32 0x3F000000#32))

/-- What an expert with weights `a`, `b` adds at token `t`, lane `d`: its output for each of its 256 chosen tokens `i k`,
    weighted by that token's gate `v k`, at the tokens that are `t`. -/
def part (i : Fin 256 → BitVec 32) (v : Fin 256 → EReal) (x : Fin 2048 → Fin 768 → EReal)
    (a : Fin 768 → Fin 1024 → EReal) (b : Fin 1024 → Fin 768 → EReal) (t : Fin 2048) (d : Fin 768) : EReal :=
  ∑ k, hot (i k) t * ((∑ f, gelu (layer (i k) x a f) * b f d) * v k)

/-- The kernel's zero-or-one is the reference's: the comparison's sides are exchanged, and the bit is widened before it is
    read as a signed number instead of being read as an unsigned one. -/
theorem hot_kernel (i : BitVec 32) (u : ℕ) :
    FloatOps.sitofp (F := Ideal) .f32 (BitVec.setWidth 32 (IntOp.cmpi .eq (BitVec.ofNat 32 u) i)) = hot i u := by
  unfold hot
  rw [show IntOp.cmpi .eq (BitVec.ofNat 32 u) i = IntOp.cmpi .eq i (BitVec.ofNat 32 u) from by
    unfold IntOp.cmpi; simp only [Bool.beq_comm]]
  generalize IntOp.cmpi .eq i (BitVec.ofNat 32 u) = z
  have hz : (BitVec.setWidth 32 z).toInt = (z.toNat : ℤ) := by revert z; decide
  show (((BitVec.setWidth 32 z).toInt : ℝ) : EReal) = ((z.toNat : ℝ) : EReal)
  rw [hz, Int.cast_natCast]

/-- The kernel's error linear unit is the reference's, with the constant named as the reciprocal of the square root of two. -/
theorem gelu_kernel (h : EReal) :
    Ideal.ofBits .f32 0x3F000000#32 * h * (1 + FloatOps.erf (F := Ideal) (φ := .f32) (h * Named.named (F := Ideal) κ "sqrt_half" (φ := .f32) 0x3F3504F3#32)) = gelu h := by
  unfold gelu
  rw [IdealRules.named_const.ideal_named_scalar κ "sqrt_half" (φ := .f32) _ (((Real.sqrt 2)⁻¹ : ℝ) : EReal) rfl]
  exact Cert.Gelu.gelu_eq _ h

/-- The block starts from zero. -/
theorem pay_zero (j : S1x2048x768.Idx) : k1_pay2 (F := Ideal) j = 0 := by
  pointwise [k1_pay2]

/-- The body adds to the block the contribution of the point's expert. -/
theorem pay_step (x : Vec Ideal S1x2048x768 .f32) (i : Vec Ideal S1x1x1x256 .i32) (v : Vec Ideal S1x1x1x256 .f32)
    (a : Vec Ideal S1x768x1024 .f32) (b : Vec Ideal S1x1024x768 .f32) (acc : Vec Ideal S1x2048x768 .f32) (j : S1x2048x768.Idx) :
    k1_pay1 (k1_pay3 i) (k1_pay4 x i a b) (k1_pay5 v) acc j
      = acc j + part (fun k => i (ix4 0 0 0 k)) (fun k => v (ix4 0 0 0 k)) (fun u c => x (ix3 0 u c))
          (fun c f => a (ix3 0 c f)) (fun f d => b (ix3 0 f d)) (j 1) (j 2) := by
  pointwise [k1_pay1, k1_pay3, k1_pay4, k1_pay5]
  simp only [hot_kernel]
  unfold part layer
  simp only [← gelu_kernel]

/-- The reference's result is the sum of the experts' contributions. -/
theorem combined_eq (X : FVec Ideal S2x2048x768 .f32) (A : FVec Ideal S16x768x1024 .f32) (B : FVec Ideal S16x1024x768 .f32)
    (V : FVec Ideal S2x16x256 .f32) (I : IVec S2x16x256 32) (j : S2x2048x768.Idx) :
    combined X A B V I j = ∑ s : Fin 16, part (fun k => I (ix3 (j 0) s k)) (fun k => V (ix3 (j 0) s k)) (fun u c => X (ix3 (j 0) u c))
          (fun c f => A (ix3 s c f)) (fun f d => B (ix3 s f d)) (j 1) (j 2) := by
  pointwise [combined, Cert.ReferenceIdeal.RefTerm.outputs, Cert.ReferenceIdeal.RefTerm.activated,
    Cert.ReferenceIdeal.RefTerm.hidden, Cert.ReferenceIdeal.RefTerm.gathered, Cert.ReferenceIdeal.RefTerm.oneHot]
  unfold part layer gelu hot
  simp only [mul_comm (A _) _, mul_comm (B _) _]

end Cert.KernelIdeal.Experts

end
-- ==== Proof.Ffn.lean ====
/- The second region's result: the experts' contributions, summed over the sixteen points that share a batch entry. -/
module

public import proofs.«01_k».proof.Proof.Choice
public import proofs.«01_k».proof.Proof.Experts

@[expose] public section

set_option maxRecDepth 16384

noncomputable section

namespace Cert.KernelIdeal.Ffn

open Cert.KernelIdeal Cert.KernelIdeal.Gen Cert.KernelIdeal.Experts Cert.KernelIdeal.Choice
open Cert.ReferenceIdeal.RefTerm (combined)
open Idealize.ShloMosaic Idealize.ShloMosaic.TcCoe Idealize.SL.Sem

variable (m : (ℓ : Loc nD τ sig) → Buf (Elt Ideal) ℓ) (ρ : Dev nD → PrngReg)

/-- The windows' block indices at point `t`: the batch entry is `t / 16`, the expert `t % 16`. -/
theorem idx : ∀ t : Fin cfg1.N, win1_0.index t = ![t.val / 16, 0, 0] ∧ win1_1.index t = ![t.val / 16, t.val % 16, 0, 0]
    ∧ win1_2.index t = ![t.val / 16, t.val % 16, 0, 0] ∧ win1_3.index t = ![t.val % 16, 0, 0]
    ∧ win1_4.index t = ![t.val % 16, 0, 0] ∧ win1_5.index t = ![t.val / 16, 0, 0] :=
  (by decide +kernel : ∀ t : Fin grid1.N, _)

/-- The batch entry of point `t`. -/
def entry (t : Fin cfg1.N) : Fin 2 := ⟨t.val / 16, by have := lt_of_lt_of_eq t.isLt N_1; omega⟩

/-- The expert of point `t`. -/
def expert (t : Fin cfg1.N) : Fin 16 := ⟨t.val % 16, Nat.mod_lt _ (by decide)⟩

/-- The token window's block is the batch entry's tokens. -/
theorem read_tokens (c : Dev nD) (t : Fin cfg1.N) (u : Fin 2048) (l : Fin 768) :
    iblk1 (V2 m ρ) c 0 t (ix3 0 u l) = m ((c : Thread nD τ).loc main_arg0) (ix3 (entry t) u l) := by
  blk_simp [iblk1, idx t]
  rw [show V2 m ρ c main_arg0 = m ((c : Thread nD τ).loc main_arg0) from W2_args m ρ c main_arg0 (by decide)]
  blk_ext [idx t, entry]

/-- The number window's block is the chosen tokens' numbers of the batch entry and expert. -/
theorem read_numbers (c : Dev nD) (t : Fin cfg1.N) (k : Fin 256) :
    iblk1 (V2 m ρ) c 1 t (ix4 0 0 0 k) = (picks m c).2 (ix3 (entry t) (expert t) k) := by
  blk_simp [iblk1, idx t]
  rw [show V2 m ρ c main_v2 = _ from numbers m ρ c]
  pointwise
  blk_ext [idx t, entry, expert]

/-- The weight window's block is the chosen tokens' gates of the batch entry and expert. -/
theorem read_gates (c : Dev nD) (t : Fin cfg1.N) (k : Fin 256) :
    iblk1 (V2 m ρ) c 2 t (ix4 0 0 0 k) = (picks m c).1 (ix3 (entry t) (expert t) k) := by
  blk_simp [iblk1, idx t]
  rw [show V2 m ρ c main_v3 = _ from gates m ρ c]
  pointwise
  blk_ext [idx t, entry, expert]

/-- The first layer's window is the expert's. -/
theorem read_first (c : Dev nD) (t : Fin cfg1.N) (l : Fin 768) (f : Fin 1024) :
    iblk1 (V2 m ρ) c 3 t (ix3 0 l f) = m ((c : Thread nD τ).loc main_arg2) (ix3 (expert t) l f) := by
  blk_simp [iblk1, idx t]
  rw [show V2 m ρ c main_arg2 = m ((c : Thread nD τ).loc main_arg2) from W2_args m ρ c main_arg2 (by decide)]
  blk_ext [idx t, expert]

/-- The second layer's window is the expert's. -/
theorem read_second (c : Dev nD) (t : Fin cfg1.N) (f : Fin 1024) (l : Fin 768) :
    iblk1 (V2 m ρ) c 4 t (ix3 0 f l) = m ((c : Thread nD τ).loc main_arg3) (ix3 (expert t) f l) := by
  blk_simp [iblk1, idx t]
  rw [show V2 m ρ c main_arg3 = m ((c : Thread nD τ).loc main_arg3) from W2_args m ρ c main_arg3 (by decide)]
  blk_ext [idx t, expert]

/-- The result array after the second region is the reference's third part over the launch's arguments and choice. -/
theorem final (c : Dev nD) : W3 m ρ c (Proc.devRef .tc main_v4)
    = combined (m ((c : Thread nD τ).loc main_arg0)) (m ((c : Thread nD τ).loc main_arg2)) (m ((c : Thread nD τ).loc main_arg3))
        (picks m c).1 (picks m c).2 := by
  refine (W3_arr m ρ c 5).trans ?_
  refine (dat1 (V2 m ρ) c).arrAt_eq_of_covers 5 _ (by decide +kernel) fun t hf y => ?_
  blk_simp
  rw [after1_5, Pipeline.eq_sum_fin_of_reset_step_apply_of_flush (fun n h => outsAt1 (V2 m ρ) c n h) 16 (fun _ => 0) _
    (fun t h j => by rw [outsAt1_A (V2 m ρ) c t h]; frame_out; rw [pay_step, pay_zero])
    (fun t h j => by rw [outsAt1_B (V2 m ρ) c t h]; frame_out; rw [pay_step])
    t ((flush1_5 t).mp hf) _, zero_add, combined_eq]
  refine Fin.sum_fin_congr fun s => ?_
  simp only [read_tokens, read_numbers, read_gates, read_first, read_second]
  have ht := Pipeline.run_point_lt_of_flush t ((flush1_5 t).mp hf) s
  have hs : expert ⟨_, ht⟩ = s := Fin.ext (by simp only [expert]; omega)
  have hb : entry ⟨_, ht⟩ = (((cfg1.win 5).blk t).view.emb y) 0 := Fin.ext (by
    have h0 : (y 0).val < 1 := (y 0).isLt
    blk_simp [idx t]; simp only [entry]; omega)
  have h1 : (((cfg1.win 5).blk t).view.emb y) 1 = y 1 := Fin.ext (by blk_simp [idx t] <;> try omega)
  have h2 : (((cfg1.win 5).blk t).view.emb y) 2 = y 2 := Fin.ext (by blk_simp [idx t] <;> try omega)
  rw [hs, hb]
  exact congrArg₂ _ h1.symm h2.symm

end Cert.KernelIdeal.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Ffn
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: it runs, its arguments end unchanged, and the counters are zero since it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's constant 0x3F3504F3 is read, over the extended reals, as the reciprocal of the square root of two. -/
theorem preserves : Cert.preserves_Kernel_KernelIdeal :=
  IdealRules.named_const.statement Cert.KernelIdeal.κ "sqrt_half" .f32 0x3F3504F3#32 (((Real.sqrt 2)⁻¹ : ℝ) : EReal) rfl

/-- Over the extended reals the kernel's result is the reference's, for all arguments. -/
theorem algebraic : Cert.algebraic_KernelIdeal_ReferenceIdeal := by
  intro m g m' g' _ hargs
  refine ⟨fun c => Cert.KernelIdeal.Gen.W3 m g c (Proc.devRef .tc Cert.KernelIdeal.main_v4), Cert.KernelIdeal.KernelRun.run m g,
    (θ_run Cert.ReferenceIdeal.defs _ _).mono (fun r h c => ⟨(h c).1.trans ?_, (h c).2⟩) (Cert.ReferenceIdeal.Value.run m' g')⟩
  obtain ⟨h0, h1, h2, h3⟩ := hargs c
  rw [Cert.ReferenceIdeal.RefTerm.result_eq, h0, h1, h2, h3]
  exact (Cert.KernelIdeal.Ffn.final m g c).symm

/-- The certificate's claim: each program's frame, the named constant, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves, algebraic⟩

end Cert.Proof

end
